-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4000000 : Shape := ⟨1, ![4000000]⟩
abbrev S_ : Shape := ⟨0, ![]⟩
abbrev S4014080 : Shape := ⟨1, ![4014080]⟩
abbrev S31360x128 : Shape := ⟨2, ![31360, 128]⟩
abbrev S1x1 : Shape := ⟨2, ![1, 1]⟩
abbrev S448x128 : Shape := ⟨2, ![448, 128]⟩
abbrev S1x448x128 : Shape := ⟨3, ![1, 448, 128]⟩
abbrev S1 : Shape := ⟨1, ![1]⟩
abbrev S1x1x1 : Shape := ⟨3, ![1, 1, 1]⟩

abbrev nBuf : Space → Nat
  | .hbm => 16
  | .vmem => 5
  | .smem => 0
  | _ => 0

abbrev bufTy : (tb : Table) → Fin (tcTables nBuf tb) → BufTy
  | .hbm, ⟨0, _⟩ => ⟨S4000000, .f32⟩
  | .hbm, ⟨1, _⟩ => ⟨S4000000, .f32⟩
  | .hbm, ⟨2, _⟩ => ⟨S_, .f32⟩
  | .hbm, ⟨3, _⟩ => ⟨S_, .f32⟩
  | .hbm, ⟨4, _⟩ => ⟨S4014080, .f32⟩
  | .hbm, ⟨5, _⟩ => ⟨S_, .f32⟩
  | .hbm, ⟨6, _⟩ => ⟨S_, .f32⟩
  | .hbm, ⟨7, _⟩ => ⟨S4014080, .f32⟩
  | .hbm, ⟨8, _⟩ => ⟨S31360x128, .f32⟩
  | .hbm, ⟨9, _⟩ => ⟨S31360x128, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S448x128, .f32⟩
  | .local _ .vmem, ⟨1, _⟩ => ⟨S448x128, .f32⟩
  | .local _ .vmem, ⟨2, _⟩ => ⟨S448x128, .f32⟩
  | .local _ .vmem, ⟨3, _⟩ => ⟨S448x128, .f32⟩
  | .local _ .vmem, ⟨4, _⟩ => ⟨S1x1, .f32⟩
  | _, _ => ⟨S4000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_cst_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![70], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S448x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S448x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S4000000 : Shape := ⟨1, ![4000000]⟩
abbrev S32 : Shape := ⟨1, ![32]⟩
abbrev S_ : Shape := ⟨0, ![]⟩
abbrev S1 : Shape := ⟨1, ![1]⟩
abbrev S1x32 : Shape := ⟨2, ![1, 32]⟩
abbrev S4000000x1 : Shape := ⟨2, ![4000000, 1]⟩
abbrev S4000000x32 : Shape := ⟨2, ![4000000, 32]⟩
abbrev S31 : Shape := ⟨1, ![31]⟩

abbrev nBuf : Space → Nat
  | .hbm => 102
  | .vmem => 0
  | .smem => 0
  | _ => 0

abbrev bufTy : (tb : Table) → Fin (tcTables nBuf tb) → BufTy
  | .hbm, ⟨0, _⟩ => ⟨S4000000, .f32⟩
  | .hbm, ⟨1, _⟩ => ⟨S4000000, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S1, .f32⟩
  | .hbm, ⟨7, _⟩ => ⟨S_, .f32⟩
  | .hbm, ⟨8, _⟩ => ⟨S1, .f32⟩
  | .hbm, ⟨9, _⟩ => ⟨S_, .f32⟩
  | .hbm, ⟨10, _⟩ => ⟨S4000000, .f32⟩
  | .hbm, ⟨11, _⟩ => ⟨S4000000, .f32⟩
  | .hbm, ⟨12, _⟩ => ⟨S4000000, .f32⟩
  | .hbm, ⟨13, _⟩ => ⟨S4000000, .f32⟩
  | .hbm, ⟨14, _⟩ => ⟨S1x32, .f32⟩
  | .hbm, ⟨15, _⟩ => ⟨S4000000x1, .f32⟩
  | .hbm, ⟨16, _⟩ => ⟨S4000000x32, .f32⟩
  | .hbm, ⟨17, _⟩ => ⟨S4000000x32, .f32⟩
  | .hbm, ⟨18, _⟩ => ⟨S4000000x32, .i1⟩
  | .hbm, ⟨19, _⟩ => ⟨S4000000x32, .i32⟩
  | .hbm, ⟨20, _⟩ => ⟨S_, .i32⟩
  | .hbm, ⟨21, _⟩ => ⟨S4000000, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S4000000, .i32⟩
  | .hbm, ⟨26, _⟩ => ⟨S4000000, .i32⟩
  | .hbm, ⟨27, _⟩ => ⟨S_, .i32⟩
  | .hbm, ⟨28, _⟩ => ⟨S4000000, .i32⟩
  | .hbm, ⟨29, _⟩ => ⟨S4000000, .i32⟩
  | .hbm, ⟨30, _⟩ => ⟨S_, .f32⟩
  | .hbm, ⟨31, _⟩ => ⟨S1, .f32⟩
  | .hbm, ⟨32, _⟩ => ⟨S31, .f32⟩
  | .hbm, ⟨33, _⟩ => ⟨S32, .f32⟩
  | .hbm, ⟨34, _⟩ => ⟨S4000000x1, .f32⟩
  | .hbm, ⟨35, _⟩ => ⟨S1x32, .f32⟩
  | .hbm, ⟨36, _⟩ => ⟨S4000000x32, .f32⟩
  | .hbm, ⟨37, _⟩ => ⟨S4000000x32, .f32⟩
  | .hbm, ⟨38, _⟩ => ⟨S4000000x32, .f32⟩
  | .hbm, ⟨39, _⟩ => ⟨S_, .f32⟩
  | .hbm, ⟨40, _⟩ => ⟨S4000000x32, .f32⟩
  | .hbm, ⟨41, _⟩ => ⟨S4000000x32, .f32⟩
  | .hbm, ⟨42, _⟩ => ⟨S4000000x32, .f32⟩
  | .hbm, ⟨43, _⟩ => ⟨S4000000x32, .f32⟩
  | .hbm, ⟨44, _⟩ => ⟨S_, .f32⟩
  | .hbm, ⟨45, _⟩ => ⟨S4000000x32, .f32⟩
  | .hbm, ⟨46, _⟩ => ⟨S4000000x32, .f32⟩
  | .hbm, ⟨47, _⟩ => ⟨S_, .f32⟩
  | .hbm, ⟨48, _⟩ => ⟨S4000000x32, .f32⟩
  | .hbm, ⟨49, _⟩ => ⟨S4000000x32, .f32⟩
  | .hbm, ⟨50, _⟩ => ⟨S1x32, .f32⟩
  | .hbm, ⟨51, _⟩ => ⟨S4000000x32, .f32⟩
  | .hbm, ⟨52, _⟩ => ⟨S4000000x32, .f32⟩
  | .hbm, ⟨53, _⟩ => ⟨S4000000x32, .f32⟩
  | .hbm, ⟨54, _⟩ => ⟨S_, .f32⟩
  | .hbm, ⟨55, _⟩ => ⟨S4000000x32, .f32⟩
  | .hbm, ⟨56, _⟩ => ⟨S4000000x32, .f32⟩
  | .hbm, ⟨57, _⟩ => ⟨S4000000x32, .f32⟩
  | .hbm, ⟨58, _⟩ => ⟨S4000000x32, .f32⟩
  | .hbm, ⟨59, _⟩ => ⟨S_, .f32⟩
  | .hbm, ⟨60, _⟩ => ⟨S4000000x32, .f32⟩
  | .hbm, ⟨61, _⟩ => ⟨S4000000x32, .f32⟩
  | .hbm, ⟨62, _⟩ => ⟨S_, .f32⟩
  | .hbm, ⟨63, _⟩ => ⟨S4000000x32, .f32⟩
  | .hbm, ⟨64, _⟩ => ⟨S4000000x32, .f32⟩
  | .hbm, ⟨65, _⟩ => ⟨S4000000x32, .f32⟩
  | .hbm, ⟨66, _⟩ => ⟨S_, .f32⟩
  | .hbm, ⟨67, _⟩ => ⟨S4000000, .f32⟩
  | .hbm, ⟨68, _⟩ => ⟨S4000000x1, .f32⟩
  | .hbm, ⟨69, _⟩ => ⟨S_, .f32⟩
  | .hbm, ⟨70, _⟩ => ⟨S4000000x1, .f32⟩
  | .hbm, ⟨71, _⟩ => ⟨S4000000x1, .f32⟩
  | .hbm, ⟨72, _⟩ => ⟨S4000000x32, .f32⟩
  | .hbm, ⟨73, _⟩ => ⟨S4000000x32, .f32⟩
  | .hbm, ⟨74, _⟩ => ⟨S32, .i32⟩
  | .hbm, ⟨75, _⟩ => ⟨S1x32, .i32⟩
  | .hbm, ⟨76, _⟩ => ⟨S4000000x1, .i32⟩
  | .hbm, ⟨77, _⟩ => ⟨S4000000x32, .i32⟩
  | .hbm, ⟨78, _⟩ => ⟨S4000000x32, .i32⟩
  | .hbm, ⟨79, _⟩ => ⟨S4000000x32, .i32⟩
  | .hbm, ⟨80, _⟩ => ⟨S_, .i32⟩
  | .hbm, ⟨81, _⟩ => ⟨S4000000x32, .i32⟩
  | .hbm, ⟨82, _⟩ => ⟨S4000000x32, .i1⟩
  | .hbm, ⟨83, _⟩ => ⟨S4000000x32, .f32⟩
  | .hbm, ⟨84, _⟩ => ⟨S4000000x32, .f32⟩
  | .hbm, ⟨85, _⟩ => ⟨S_, .f32⟩
  | .hbm, ⟨86, _⟩ => ⟨S4000000x32, .f32⟩
  | .hbm, ⟨87, _⟩ => ⟨S4000000x32, .f32⟩
  | .hbm, ⟨88, _⟩ => ⟨S_, .f32⟩
  | .hbm, ⟨89, _⟩ => ⟨S_, .f32⟩
  | .hbm, ⟨90, _⟩ => ⟨S4000000x32, .f32⟩
  | .hbm, ⟨91, _⟩ => ⟨S4000000x32, .f32⟩
  | .hbm, ⟨92, _⟩ => ⟨S4000000x32, .f32⟩
  | .hbm, ⟨93, _⟩ => ⟨S_, .f32⟩
  | .hbm, ⟨94, _⟩ => ⟨S4000000, .f32⟩
  | .hbm, ⟨95, _⟩ => ⟨S_, .f32⟩
  | .hbm, ⟨96, _⟩ => ⟨S4000000, .f32⟩
  | .hbm, ⟨97, _⟩ => ⟨S4000000, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | _, _ => ⟨S4000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_c_0 : Ref sig .tc := ⟨.hbm, 22, rfl⟩
abbrev main_c_1 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_call2_v0 : Ref sig .tc := ⟨.hbm, 89, rfl⟩
abbrev main_call2_v1 : Ref sig .tc := ⟨.hbm, 90, rfl⟩
abbrev main_v63 : Ref sig .tc := ⟨.hbm, 91, rfl⟩
abbrev main_v64 : Ref sig .tc := ⟨.hbm, 92, rfl⟩
abbrev main_cst_14 : Ref sig .tc := ⟨.hbm, 93, rfl⟩
abbrev main_v65 : Ref sig .tc := ⟨.hbm, 94, rfl⟩
abbrev main_cst_15 : Ref sig .tc := ⟨.hbm, 95, rfl⟩
abbrev main_v66 : Ref sig .tc := ⟨.hbm, 96, rfl⟩
abbrev main_v67 : Ref sig .tc := ⟨.hbm, 97, rfl⟩
abbrev main_cst_16 : Ref sig .tc := ⟨.hbm, 98, rfl⟩
abbrev main_v68 : Ref sig .tc := ⟨.hbm, 99, rfl⟩
abbrev main_cst_17 : Ref sig .tc := ⟨.hbm, 100, rfl⟩
abbrev main_v69 : Ref sig .tc := ⟨.hbm, 101, rfl⟩

abbrev nD : Nat := 1
abbrev τ : Topo := Topo.v7x

variable {F : FTy → Type} [FloatOps F]
-- ==== Proof.KernelBlock.lean ====
/-
  WHAT ONE GRID POINT COMPUTES. The body of the kernel reads one block of predictions and one block of targets, forms
  one expected score per element, adds the block's scores up and adds that sum to the one-element output.

  The body's text is unrolled over the 32 rungs; here it is folded back into a recursion over the rung number, the
  constants of rung `r` (`10 r`, `r`, `2^(-r)`) being given by formulas for their bit patterns.
-/
module

public import proofs.«01_k».proof.Proof.Gen.KernelIdeal.Frame
public import Idealize.ShloMosaic.Lib.Pipeline.Value
public import Idealize.ShloMosaic.Lib.Tactic
public import Idealize.ShloMosaic.Lib.Pointwise

@[expose] public section

set_option maxRecDepth 65536

noncomputable section

open Idealize.ShloMosaic Idealize.ShloMosaic.TcCoe Idealize.SL.Sem

namespace Cert.KernelIdeal.Value

open Cert.KernelIdeal Cert.KernelIdeal.Gen

variable {F : FTy → Type} [FloatOps F]

/-! ## The scalar formulas -/

/-- The single-precision bit pattern of the natural number `n` (for `n < 2^24`). -/
def natWord (n : ℕ) : BitVec 32 :=
  if n = 0 then 0#32 else BitVec.ofNat 32 ((127 + n.log2) * 2 ^ 23 + (n * 2 ^ (23 - n.log2) - 2 ^ 23))

/-- The single-precision bit pattern of `2^(-r)` (for `r < 127`). -/
def halfWord (r : ℕ) : BitVec 32 := BitVec.ofNat 32 ((127 - r) * 2 ^ 23)

/-- The prediction scaled and shifted: `10 p - 5`. -/
def shifted (p : F .f32) : F .f32 :=
  FloatOps.subf (FloatOps.mulf p (FloatOps.ofBits .f32 0x41200000#32)) (FloatOps.ofBits .f32 0x40A00000#32)

/-- The target's rung: the target clipped to `[1, 32]`, rounded up, less one. -/
def rungOf (t : F .f32) : F .f32 :=
  FloatOps.subf (FloatOps.ceil (FloatOps.minimumf (FloatOps.ofBits .f32 0x42000000#32)
    (FloatOps.maximumf (FloatOps.ofBits .f32 0x3F800000#32) t))) (FloatOps.ofBits .f32 0x3F800000#32)

/-- The kernel's first constant, `1 + exp (-10)`. -/
def kOne : F .f32 :=
  FloatOps.addf (FloatOps.ofBits .f32 0x3F800000#32) (FloatOps.exp (FloatOps.ofBits .f32 0xC1200000#32))

/-- The kernel's second constant, `exp (-5)`. -/
def kTwo : F .f32 := FloatOps.exp (FloatOps.ofBits .f32 0xC0A00000#32)

/-- The decay `exp (-|c|)` of rung `r`, with `c` the shifted prediction less `10 r`. -/
def decay (a : F .f32) (r : ℕ) : F .f32 :=
  FloatOps.exp (FloatOps.subf (FloatOps.ofBits .f32 0x00000000#32)
    (FloatOps.absf (FloatOps.subf a (FloatOps.ofBits .f32 (natWord (10 * r))))))

/-- The unnormalised weight of rung `r`: with `n` its decay, `n / (k₂ + n (k₁ + k₂ n))`. -/
def weight (a : F .f32) (r : ℕ) : F .f32 :=
  FloatOps.divf (decay a r) (FloatOps.addf kTwo (FloatOps.mulf (decay a r)
    (FloatOps.addf kOne (FloatOps.mulf kTwo (decay a r)))))

/-- The sum of the weights of the first `n` rungs, in the kernel's order. -/
def weightSum (a : F .f32) : ℕ → F .f32
  | 0 => FloatOps.ofBits .f32 0x00000000#32
  | n + 1 => FloatOps.addf (weightSum a n) (weight a n)

/-- The sum over the first `n` rungs of the weight times `2^(-r)`, the rungs below the target's rung `k` left out. -/
def scoreSum (a k : F .f32) : ℕ → F .f32
  | 0 => FloatOps.ofBits .f32 0x00000000#32
  | n + 1 => FloatOps.addf (scoreSum a k n)
      (Scalar.select (FloatOps.cmpf .ole k (FloatOps.ofBits .f32 (natWord n)))
        (FloatOps.mulf (weight a n) (FloatOps.ofBits .f32 (halfWord n))) (FloatOps.ofBits .f32 0x00000000#32))

/-- The expected score the kernel computes for one prediction and one target. -/
def expected (p t : F .f32) : F .f32 :=
  FloatOps.divf (FloatOps.mulf (scoreSum (shifted p) (rungOf t) 32) (FloatOps.exp2 (rungOf t)))
    (FloatOps.addf (weightSum (shifted p) 32) (FloatOps.ofBits .f32 0x322BCC77#32))

/-- The expected scores of a block. -/
def expectedBlock (x t : Vec F S448x128 .f32) : FVec F S448x128 .f32 := fun j => expected (x j) (t j)

/-- A block's elements added up. -/
def blockTotal (v : FVec F S448x128 .f32) : FVec F S1x1 .f32 :=
  broadcast S1x1 (extractAt ![0, 0, 0] (shapeCast S1x1x1
    (multiReduction .add [1, 2] S1 (shapeCast S1x448x128 v shapeCasts_S448x128_S1x448x128) 0x00000000#32
      reduces_S1x448x128_S1 (.inl rfl) rfl) shapeCasts_S1_S1x1x1) inpos_S1x1x1_p0_0_0)

/-! ## The body's two cases -/

/-- The offset of the whole-block accesses is zero. -/
theorem hz : (![0, 0] : Fin 2 → Nat) = fun _ => 0 := funext fun a => by fin_cases a <;> rfl

/-- At the first grid point the output becomes zero plus the block's total. -/
theorem out_A (c : Fin nD) (i : grid0.Coords) (a1 : Memref sig .tc .vmem S448x128 .f32) (h1 : a1.IsWhole)
    (a2 : Memref sig .tc .vmem S448x128 .f32) (h2 : a2.IsWhole) (a3 : Memref sig .tc .vmem S1x1 .f32) (h3 : a3.IsWhole)
    (hc) (x : Vec F S448x128 .f32) (t : Vec F S448x128 .f32) :
    out0_A_2 c i a1 h1 a2 h2 a3 h3 hc x t = addf (k0_pay91 (F := F)) (blockTotal (expectedBlock x t)) := by
  unfold out0_A_2
  rw [View.read_writes_eq_canon _ _ _ (cover0_A_2 c i a1 h1 a2 h2 a3 h3 hc x t)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, View.ld_unit_zero (S := S448x128) hz,
    View.ld_unit_zero (S := S1x1) hz, shapeCast_self]
  unfold k0_pay1
  simp only [shapeCast_self]
  unfold_payloads
  simp only [shapeCast_self]
  rfl

/-- At every later grid point the block's total is added to what the output holds. -/
theorem out_B (c : Fin nD) (i : grid0.Coords) (a1 : Memref sig .tc .vmem S448x128 .f32) (h1 : a1.IsWhole)
    (a2 : Memref sig .tc .vmem S448x128 .f32) (h2 : a2.IsWhole) (a3 : Memref sig .tc .vmem S1x1 .f32) (h3 : a3.IsWhole)
    (hc) (x : Vec F S448x128 .f32) (t : Vec F S448x128 .f32) (xo : Vec F S1x1 .f32) :
    out0_B_2 c i a1 h1 a2 h2 a3 h3 hc x t xo = addf xo (blockTotal (expectedBlock x t)) := by
  unfold out0_B_2
  rw [View.read_writes_eq_canon _ _ _ (cover0_B_2 c i a1 h1 a2 h2 a3 h3 hc x t xo)]
  unfold kernelRun0_B
  dsimp only
  sl_unfold_words
  rw [View.canon_unit_zero (S := S1x1) hz]
  simp only [View.readAt_eq_ld, h1.read_unread, h2.read_unread, h3.read_unread, View.ld_unit_zero (S := S448x128) hz,
    View.ld_unit_zero (S := S1x1) hz, shapeCast_self]
  unfold k0_pay1
  simp only [shapeCast_self]
  unfold_payloads
  simp only [shapeCast_self]
  rfl

end Cert.KernelIdeal.Value
-- ==== Proof.KernelValue.lean ====
/-
  WHAT THE KERNEL'S OUTPUT HOLDS. The one-element output accumulates the blocks' totals over the grid's 70 points and is
  written back once, after the last one; the two host-side operations after the region divide it and subtract it from one.
-/
module

public import proofs.«01_k».proof.Proof.KernelBlock
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem

namespace Cert.KernelIdeal.Value

open Cert.KernelIdeal Cert.KernelIdeal.Gen

variable {F : FTy → Type} [FloatOps F]
variable (m : (ℓ : Loc nD τ sig) → Buf (Elt F) ℓ) (ρ : Dev nD → PrngReg)

/-- The total of point `t`'s block. -/
def pointTotal (c : Dev nD) (t : Fin cfg0.N) : FVec F S1x1 .f32 :=
  blockTotal (expectedBlock (iblk m c 0 t) (iblk m c 1 t))

/-- The running sum after point `n`: zero, plus each point's total in order. -/
def running (c : Dev nD) : (n : ℕ) → n < cfg0.N → FVec F S1x1 .f32
  | 0, h => addf (k0_pay91 (F := F)) (pointTotal m c ⟨0, h⟩)
  | n + 1, h => addf (running c n (Nat.lt_of_succ_lt h)) (pointTotal m c ⟨n + 1, h⟩)

/-- What the output's staging buffer holds after point `n` is the running sum. -/
theorem outsAt_eq (c : Dev nD) : ∀ (n : ℕ) (h : n < cfg0.N), outsAt0 m c n h = running m c n h
  | 0, h => (outsAt0_A m c ⟨0, h⟩ rfl).trans (out_A ..)
  | n + 1, h => by
    have hN : cfg0.N = 70 := N_0
    have hB : ¬(⟨n + 1, h⟩ : Fin cfg0.N).val % 70 = 0 := by dsimp only; omega
    rw [outsAt0_B m c ⟨n + 1, h⟩ hB, out_B]
    show addf (outsAt0 m c n _) _ = addf (running m c n _) _
    rw [outsAt_eq c n]
    rfl

/-- The last point of the grid. -/
def last : Fin cfg0.N := ⟨69, by rw [show cfg0.N = 70 from N_0]; decide⟩

/-- The running sum after the last point, as contents of the output array. -/
abbrev total (c : Dev nD) : Buf (Elt F) ((c : Thread nD τ).loc main_v4) := running m c last.val last.isLt

/-- The write-back of the last point writes the running sum. -/
theorem flushed_eq (c : Dev nD) (t : Fin cfg0.N) (hf : (cfg0.win 2).flush t = true) :
    (dats m 0 c).flushed 2 t = ((cfg0.win 2).blk t).view.read (Elt F) (total m c) := by
  have hN : cfg0.N = 70 := N_0
  have h69 : t.val = 69 := by have := (flush0_2 t).mp hf; have := t.isLt; omega
  obtain rfl : t = last := Fin.ext h69
  show (cfg0.win 2).cut (grid0.coords last) ((dats m 0 c).after 2 last) = _
  rw [after0_2, outsAt_eq]
  have hz' : (fun a => win0_2.index last a * main_v4.ty.shape.size a) = fun _ => 0 :=
    funext fun a => by fin_cases a <;> decide
  exact (Memref.read_access_unit_zero (Elt F) main_v4 hz' (fun a => by rw [congrFun hz' a]; simp) (total m c)).symm

/-- The output array ends holding the running sum after the last point. -/
theorem final_o (c : Dev nD) : (dats m 0 c).arrAt 2 cfg0.N = total m c :=
  (dats m 0 c).arrAt_eq_of_cover 2 (total m c) (flushed_eq m c) fun i =>
    ⟨last, (flush0_2 last).mpr rfl, by
      show i ∈ ((View.whole main_v4).slice (win0_2.rect last)).set
      rw [View.set_slice_whole, Rect.mem_set_unit]
      have hx : ∀ a, win0_2.index last a * win0_2.size a = 0 ∧ win0_2.xsize (grid0.coords last) a = 1 := by
        decide +kernel
      have hi : ∀ a : Fin 2, (i a : Nat) < 1 := fun a => by
        have h := (i a).isLt
        fin_cases a <;> exact h
      intro a
      show win0_2.index last a * win0_2.size a ≤ (i a : Nat) ∧
        (i a : Nat) < win0_2.index last a * win0_2.size a + win0_2.xsize (grid0.coords last) a
      rw [(hx a).1, (hx a).2]
      have := hi a
      omega⟩

/-- One less the total divided by the number of elements: what the host-side operations make of the output. -/
def answer (c : Dev nD) : FVec F S_ .f32 :=
  subf (constant S_ .f32 0x3F800000#32) (Host.divf (shapeCast S_ (total m c) shapeCasts_S1x1_S_)
    (constant S_ .f32 0x4A742400#32))

/-- The host-side operations after the region leave `answer` in the result, whatever else the buffers hold. -/
theorem tail_eq (c : Dev nD) :
    Pipeline.afterTail₀ cfgs (dats m) 0 (V0 m) [hostOps1] c main_v7 = answer m c := by
  unfold Pipeline.afterTail₀
  simp only [List.flatten_cons, List.flatten_nil, List.append_nil]
  after_reads_simp
  have h := (Pipeline.withArrays_arr spec0 launch0.win.arr_inj c (V0 m c)
    (fun w => (dats m 0 c).arrAt w cfg0.N) 2).trans (final_o m c)
  unfold answer
  rw [← h]
  rfl

/-- The run: the result ends at `answer`, and the arguments end unchanged. -/
theorem run : θ_run defs (onTc (τ := τ) (main (F := F))) ⟨m, fun _ => 0, ρ⟩ fun r => ∀ c : Dev nD,
      r.2.mem ((c.tc : Thread nD τ).loc main_v7) = answer m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (θ_run_and (run_main m ρ) (unchanged m ρ)) fun r h c =>
    ⟨((h.1 c).2 main_v7 (Pipeline.mem_restRefs_of main_v7 (by decide) (by decide))).trans (tail_eq m c), h.2 c⟩

/-! ## What a block reads -/

/-- A vector of 4000000 elements continued by the constant `b` to 4014080 and laid out in rows of 128. -/
def padded (x : FVec F S4000000 .f32) (b : BitVec 32) : FVec F S31360x128 .f32 :=
  shapeCast S31360x128 (pad S4014080 ![0] ![14080] ![0] x (constant S_ .f32 b) pads_S4000000_S4014080_0140800 h_S_)
    shapeCasts_S4014080_S31360x128

/-- The region finds the padded predictions in its first operand. -/
theorem V_v2 (c : Dev nD) : V m c main_v2 = padded (m ((c.tc : Thread nD τ).loc main_arg0)) 0xFF800000#32 := by
  unfold V V0
  simp only [List.flatten_cons, List.flatten_nil, List.append_nil]
  after_reads_simp
  rfl

/-- The region finds the padded targets in its second operand. -/
theorem V_v3 (c : Dev nD) : V m c main_v3 = padded (m ((c.tc : Thread nD τ).loc main_arg1)) 0x3F800000#32 := by
  unfold V V0
  simp only [List.flatten_cons, List.flatten_nil, List.append_nil]
  after_reads_simp
  rfl

/-- The row of the padded array that row `r` of point `t`'s block is. -/
def row (t : Fin cfg0.N) (r : Fin 448) : Fin 31360 :=
  ⟨t.val * 448 + r.val, by
    have h1 : t.val < 70 := lt_of_lt_of_eq t.isLt (show cfg0.N = 70 from N_0)
    have h2 := r.isLt
    omega⟩

theorem index_0 : ∀ t : Fin cfg0.N, win0_0.index t 0 = t.val ∧ win0_0.index t 1 = 0 := by decide +kernel
theorem index_1 : ∀ t : Fin cfg0.N, win0_1.index t 0 = t.val ∧ win0_1.index t 1 = 0 := by decide +kernel

/-- Point `t`'s block of predictions is 448 rows of the padded predictions. -/
theorem iblk0_apply (c : Dev nD) (t : Fin cfg0.N) (r : Fin 448) (l : Fin 128) :
    (iblk m c 0 t : Vec F S448x128 .f32) (ix2 r l)
      = padded (m ((c.tc : Thread nD τ).loc main_arg0)) 0xFF800000#32 (ix2 (row t r) l) := by
  rw [← V_v2]
  unfold iblk
  rw [View.read_apply]
  show V m c main_v2 _ = _
  congr 1
  funext a
  apply Fin.ext
  match a with
  | ⟨0, _⟩ => show win0_0.index t 0 * 448 + 1 * r.val = t.val * 448 + r.val; rw [(index_0 t).1]; omega
  | ⟨1, _⟩ => show win0_0.index t 1 * 128 + 1 * l.val = l.val; rw [(index_0 t).2]; omega

/-- Point `t`'s block of targets is 448 rows of the padded targets. -/
theorem iblk1_apply (c : Dev nD) (t : Fin cfg0.N) (r : Fin 448) (l : Fin 128) :
    (iblk m c 1 t : Vec F S448x128 .f32) (ix2 r l)
      = padded (m ((c.tc : Thread nD τ).loc main_arg1)) 0x3F800000#32 (ix2 (row t r) l) := by
  rw [← V_v3]
  unfold iblk
  rw [View.read_apply]
  show V m c main_v3 _ = _
  congr 1
  funext a
  apply Fin.ext
  match a with
  | ⟨0, _⟩ => show win0_1.index t 0 * 448 + 1 * r.val = t.val * 448 + r.val; rw [(index_1 t).1]; omega
  | ⟨1, _⟩ => show win0_1.index t 1 * 128 + 1 * l.val = l.val; rw [(index_1 t).2]; omega

/-- Row `i`, lane `l` of the padded array is element `128 i + l` of the vector, or the constant past its end. -/
theorem padded_apply (x : FVec F S4000000 .f32) (b : BitVec 32) (i : Fin 31360) (l : Fin 128) :
    padded x b (ix2 i l) = if h : i.val * 128 + l.val < 4000000 then x (ix1 ⟨i.val * 128 + l.val, h⟩)
      else FloatOps.ofBits .f32 b := by
  unfold padded
  pointwise

end Cert.KernelIdeal.Value
-- ==== Proof.Maths.lean ====
/-
  THE MATHEMATICS OF ONE ELEMENT, in real numbers: the weight the ladder gives each rung, the score a rung earns, and
  the expected score. Both programs are shown to compute these real numbers, at every extended-real input.
-/
module

public import Idealize.ShloMosaic.PureOps.Ideal.Laws
public import Mathlib.Analysis.SpecialFunctions.Pow.Real

@[expose] public section

noncomputable section

open Idealize.ShloMosaic

namespace Cert.Maths

/-! ## The real functions -/

/-- The common denominator of the two logistic factors of rung `r` at the real prediction `p`. -/
def denom (p : ℝ) (r : ℕ) : ℝ :=
  1 + Real.exp (-10) + Real.exp (-5) * (Real.exp (10 * p - 5 - 10 * r) + Real.exp (-(10 * p - 5 - 10 * r)))

/-- The weight of rung `r`: the product of its two logistic factors; zero at an infinite prediction. -/
def prob : EReal → ℕ → ℝ
  | ⊥, _ => 0
  | ⊤, _ => 0
  | (p : ℝ), r => 1 / denom p r

/-- The target clipped to `[1, 32]`, a real number at every extended-real target. -/
def clip (t : EReal) : ℝ := (min 32 (max 1 t)).toReal

/-- The number of whole rungs below the target: the clipped target rounded up, less one. -/
def below (t : EReal) : ℕ := ⌈clip t⌉.toNat - 1

/-- The score rung `r` earns when `k` rungs lie below the target: `2^(k-r)`, or zero below the target. -/
def score (k r : ℕ) : ℝ := if k ≤ r then (2 : ℝ) ^ k / 2 ^ r else 0

/-- The small number the weights' sum is increased by: the single-precision neighbour of `10^-8`. -/
def eps : ℝ := 11258999 * (2 : ℝ) ^ (-50 : ℤ)

/-- The expected score of one element: the weights normalised by their sum (plus `eps`), times the scores. -/
def mean (p t : EReal) : ℝ :=
  (∑ r ∈ Finset.range 32, prob p r * score (below t) r) / (∑ r ∈ Finset.range 32, prob p r + eps)

theorem eps_pos : 0 < eps := by unfold eps; positivity

theorem denom_pos (p : ℝ) (r : ℕ) : 0 < denom p r := by unfold denom; positivity

theorem prob_nonneg (p : EReal) (r : ℕ) : 0 ≤ prob p r := by
  induction p using EReal.rec with
  | bot => exact le_rfl
  | top => exact le_rfl
  | coe p => exact one_div_nonneg.2 (denom_pos p r).le

/-- The normalising sum is positive. -/
theorem total_pos (p : EReal) : 0 < ∑ r ∈ Finset.range 32, prob p r + eps :=
  add_pos_of_nonneg_of_pos (Finset.sum_nonneg fun r _ => prob_nonneg p r) eps_pos

/-- At the prediction `-∞` the expected score is zero. -/
theorem mean_bot (t : EReal) : mean ⊥ t = 0 := by
  have h : ∀ r, prob ⊥ r = 0 := fun _ => rfl
  simp [mean, h]

/-! ## The clipped target -/

theorem one_le_thirtytwo : (1 : EReal) ≤ 32 := EReal.coe_le_coe_iff.2 (by norm_num : (1 : ℝ) ≤ 32)

/-- The clipped target, as an extended real, is its real value. -/
theorem coe_clip (t : EReal) : ((clip t : ℝ) : EReal) = min 32 (max 1 t) := by
  apply EReal.coe_toReal
  · exact ((min_le_left _ _).trans_lt (EReal.coe_lt_top 32)).ne
  · exact ((EReal.bot_lt_coe 1).trans_le (le_min one_le_thirtytwo
      (le_max_left 1 t))).ne'

theorem one_le_clip (t : EReal) : 1 ≤ clip t := by
  have h : ((1 : ℝ) : EReal) ≤ ((clip t : ℝ) : EReal) := by
    rw [coe_clip]
    exact le_min one_le_thirtytwo (le_max_left 1 t)
  exact_mod_cast h

theorem clip_le (t : EReal) : clip t ≤ 32 := by
  have h : ((clip t : ℝ) : EReal) ≤ ((32 : ℝ) : EReal) := by
    rw [coe_clip]
    exact min_le_left _ _
  exact_mod_cast h

/-- The clipped target rounded up is the number of rungs below it plus one. -/
theorem ceil_clip (t : EReal) : ⌈clip t⌉ = (below t : ℤ) + 1 := by
  have h : 0 < ⌈clip t⌉ := Int.ceil_pos.2 (lt_of_lt_of_le one_pos (one_le_clip t))
  unfold below
  omega

theorem below_le (t : EReal) : below t ≤ 31 := by
  have h : ⌈clip t⌉ ≤ 32 := Int.ceil_le.2 (by exact_mod_cast clip_le t)
  have := ceil_clip t
  omega

/-- Rung `r`'s upper end lies below the clipped target exactly when `r` is one of the rungs below. -/
theorem lt_clip_iff (t : EReal) (r : ℕ) : (1 + r : ℝ) < clip t ↔ r < below t := by
  have h : ((1 + r : ℤ) : ℝ) < clip t ↔ (1 + r : ℤ) < ⌈clip t⌉ := Int.lt_ceil.symm
  rw [ceil_clip] at h
  push_cast at h
  rw [h]
  omega

/-! ## The two forms of a weight -/

/-- The kernel's form: with `n = exp (-|c|)`, `n / (k₂ + n (k₁ + k₂ n))`. -/
theorem decay_form (p : ℝ) (r : ℕ) :
    Real.exp (-|10 * p - 5 - 10 * r|) / (Real.exp (-5) + Real.exp (-|10 * p - 5 - 10 * r|) *
      (1 + Real.exp (-10) + Real.exp (-5) * Real.exp (-|10 * p - 5 - 10 * r|))) = 1 / denom p r := by
  unfold denom
  generalize 10 * p - 5 - 10 * (r : ℝ) = c
  have hs : Real.exp c + Real.exp (-c) = Real.exp (-|c|) + (Real.exp (-|c|))⁻¹ := by
    rw [← Real.exp_neg, neg_neg]
    rcases abs_choice c with h | h <;> rw [h]
    · ring
    · rw [neg_neg]
  rw [hs]
  have hn := Real.exp_pos (-|c|)
  generalize Real.exp (-|c|) = n at *
  have h5 := Real.exp_pos (-5)
  have h10 := Real.exp_pos (-10)
  have h1 : Real.exp (-5) + n * (1 + Real.exp (-10) + Real.exp (-5) * n)
      = n * (1 + Real.exp (-10) + Real.exp (-5) * (n + n⁻¹)) := by
    field_simp
    ring
  rw [h1, div_mul_eq_div_div, div_self hn.ne']

/-- The plain form: the product of the logistic functions of ten times the distances to the rung's two ends. -/
theorem logistic_form (p : ℝ) (r : ℕ) :
    1 / (1 + Real.exp (-((p - r) * 10))) * (1 / (1 + Real.exp (-((1 + r - p) * 10)))) = 1 / denom p r := by
  unfold denom
  rw [div_mul_div_comm, one_mul]
  congr 1
  have e1 : Real.exp (-((p - r) * 10)) = Real.exp (-5) * Real.exp (-(10 * p - 5 - 10 * r)) := by
    rw [← Real.exp_add]; congr 1; ring
  have e2 : Real.exp (-((1 + r - p) * 10)) = Real.exp (-5) * Real.exp (10 * p - 5 - 10 * r) := by
    rw [← Real.exp_add]; congr 1; ring
  have e3 : Real.exp (-((p - r) * 10)) * Real.exp (-((1 + r - p) * 10)) = Real.exp (-10) := by
    rw [← Real.exp_add]; congr 1; ring
  linear_combination e1 + e2 + e3

/-! ## Constants -/

/-- The extended real a single-precision bit pattern denotes. -/
def word (b : BitVec 32) : EReal := Ideal.ieee 8 23 b

/-- The pattern `b` is that of a normal single-precision number equal to `n / d`, negated if `neg`. -/
abbrev Encodes (b : BitVec 32) (neg : Bool) (n d : ℕ) : Prop :=
  (b.extractLsb' 31 1 == 1#1) = neg ∧ (b.extractLsb' 23 8).toNat ≠ 0 ∧ (b.extractLsb' 23 8).toNat ≠ 255 ∧ d ≠ 0 ∧
    (2 ^ 23 + (b.extractLsb' 0 23).toNat) * 2 ^ (b.extractLsb' 23 8).toNat * d = n * 2 ^ 150

/-- A pattern's value, from the check of its fields. -/
theorem ofBits_of_encodes {b : BitVec 32} {neg : Bool} {n d : ℕ} (h : Encodes b neg n d) :
    word b = (((if neg then -1 else 1) * (n / d) : ℝ) : EReal) := by
  obtain ⟨hn, h0, h1, hd, hv⟩ := h
  show Ideal.ieee 8 23 b = _
  unfold Ideal.ieee
  dsimp only
  rw [if_neg (by simpa using h1), if_neg h0]
  have hd' : (d : ℝ) ≠ 0 := by exact_mod_cast hd
  have hv' : ((2 ^ 23 + (b.extractLsb' 0 23).toNat : ℕ) : ℝ) * 2 ^ (b.extractLsb' 23 8).toNat * d = n * 2 ^ 150 := by
    exact_mod_cast hv
  generalize (b.extractLsb' 23 8).toNat = e at *
  generalize (b.extractLsb' 0 23).toNat = f at *
  have he : (2 : ℝ) ^ ((e : ℤ) - (2 ^ (8 - 1) - 1) - (23 : ℕ)) = 2 ^ e / 2 ^ 150 := by
    rw [show (e : ℤ) - (2 ^ (8 - 1) - 1) - (23 : ℕ) = (e : ℤ) - (150 : ℕ) by norm_num; ring, zpow_sub₀ two_ne_zero,
      zpow_natCast, zpow_natCast]
  have hs : (b.extractLsb' (8 + 23) 1 == 1#1) = neg := hn
  rw [he, hs, mul_assoc]
  congr 2
  rw [mul_div_assoc', eq_comm, div_eq_div_iff hd' (by positivity), ← hv']

theorem ofBits_zero : word 0x00000000#32 = ((0 : ℝ) : EReal) := by
  show Ideal.ieee 8 23 0x00000000#32 = _
  simp [Ideal.ieee]

theorem ofBits_one : word 0x3F800000#32 = ((1 : ℝ) : EReal) := by
  rw [ofBits_of_encodes (show Encodes _ false 1 1 by decide)]; norm_num

theorem ofBits_two : word 0x40000000#32 = ((2 : ℝ) : EReal) := by
  rw [ofBits_of_encodes (show Encodes _ false 2 1 by decide)]; norm_num

theorem ofBits_five : word 0x40A00000#32 = ((5 : ℝ) : EReal) := by
  rw [ofBits_of_encodes (show Encodes _ false 5 1 by decide)]; norm_num

theorem ofBits_ten : word 0x41200000#32 = ((10 : ℝ) : EReal) := by
  rw [ofBits_of_encodes (show Encodes _ false 10 1 by decide)]; norm_num

theorem ofBits_neg_five : word 0xC0A00000#32 = ((-5 : ℝ) : EReal) := by
  rw [ofBits_of_encodes (show Encodes _ true 5 1 by decide)]; norm_num

theorem ofBits_neg_ten : word 0xC1200000#32 = ((-10 : ℝ) : EReal) := by
  rw [ofBits_of_encodes (show Encodes _ true 10 1 by decide)]; norm_num

theorem ofBits_thirtytwo : word 0x42000000#32 = ((32 : ℝ) : EReal) := by
  rw [ofBits_of_encodes (show Encodes _ false 32 1 by decide)]; norm_num

theorem ofBits_count : word 0x4A742400#32 = ((4000000 : ℝ) : EReal) := by
  rw [ofBits_of_encodes (show Encodes _ false 4000000 1 by decide)]; norm_num

theorem ofBits_eps : word 0x322BCC77#32 = ((eps : ℝ) : EReal) := by
  rw [ofBits_of_encodes (show Encodes _ false 11258999 (2 ^ 50) by decide)]; norm_num [eps]

/-- The pattern the predictions are padded with is `-∞`. -/
theorem ofBits_neg_inf : word 0xFF800000#32 = (⊥ : EReal) := by
  show Ideal.ieee 8 23 0xFF800000#32 = _
  simp [Ideal.ieee]

/-! ## Division of reals -/

/-- The ideal quotient of two reals is the real quotient, the divisor not zero. -/
theorem div_coe_coe (x : ℝ) {y : ℝ} (hy : y ≠ 0) : Ideal.div (x : EReal) (y : EReal) = ((x / y : ℝ) : EReal) := by
  rw [Ideal.div_coe hy, ← EReal.coe_mul, mul_one_div]

end Cert.Maths
-- ==== Proof.KernelMaths.lean ====
/-
  THE KERNEL'S FORMULAS IN EXACT ARITHMETIC: the expected score the kernel computes for one prediction and one target
  is the real number `Maths.mean`, at every extended-real prediction and target.
-/
module

public import proofs.«01_k».proof.Proof.KernelBlock
public import proofs.«01_k».proof.Proof.Maths

@[expose] public section

set_option maxRecDepth 16384

noncomputable section

open Idealize.ShloMosaic Idealize.ShloMosaic.TcCoe

namespace Cert.KernelIdeal.Value

open Cert.Maths

/-! ## The rung constants -/

/-- The pattern `natWord (10 r)` encodes `10 r`, for every rung but the first. -/
theorem encodes_tens : ∀ r : Fin 32, r ≠ 0 → Encodes (natWord (10 * r.val)) false (10 * r.val) 1 := by decide +kernel

/-- The pattern `natWord r` encodes `r`, for every rung but the first. -/
theorem encodes_rung : ∀ r : Fin 32, r ≠ 0 → Encodes (natWord r.val) false r.val 1 := by decide +kernel

/-- The pattern `halfWord r` encodes `2^(-r)`. -/
theorem encodes_half : ∀ r : Fin 32, Encodes (halfWord r.val) false 1 (2 ^ r.val) := by decide +kernel

theorem ofBits_tens {r : ℕ} (h : r < 32) :
    word (natWord (10 * r)) = ((10 * r : ℝ) : EReal) := by
  rcases Nat.eq_zero_or_pos r with rfl | h0
  · exact ofBits_zero.trans (by simp)
  · rw [ofBits_of_encodes (encodes_tens ⟨r, h⟩ fun e => h0.ne' (Fin.ext_iff.1 e))]
    norm_num

theorem ofBits_rung {r : ℕ} (h : r < 32) :
    word (natWord r) = ((r : ℝ) : EReal) := by
  rcases Nat.eq_zero_or_pos r with rfl | h0
  · exact ofBits_zero.trans (by simp)
  · rw [ofBits_of_encodes (encodes_rung ⟨r, h⟩ fun e => h0.ne' (Fin.ext_iff.1 e))]
    norm_num

theorem ofBits_half {r : ℕ} (h : r < 32) :
    word (halfWord r) = ((1 / 2 ^ r : ℝ) : EReal) := by
  rw [ofBits_of_encodes (encodes_half ⟨r, h⟩)]
  norm_num

/-! ## The formulas -/

theorem kOne_eq : (kOne : Ideal .f32) = ((1 + Real.exp (-10) : ℝ) : EReal) := by
  show word 0x3F800000#32 + Ideal.exp (word 0xC1200000#32) = _
  rw [ofBits_one, ofBits_neg_ten, Ideal.exp_coe, ← EReal.coe_add]

theorem kTwo_eq : (kTwo : Ideal .f32) = ((Real.exp (-5) : ℝ) : EReal) := by
  show Ideal.exp (word 0xC0A00000#32) = _
  rw [ofBits_neg_five, Ideal.exp_coe]

/-- The shifted prediction, at a real prediction and at the two infinities. -/
theorem shifted_coe (p : ℝ) : shifted (F := Ideal) (p : EReal) = ((10 * p - 5 : ℝ) : EReal) := by
  show (p : EReal) * word 0x41200000#32 - word 0x40A00000#32 = _
  rw [ofBits_ten, ofBits_five, ← EReal.coe_mul, ← EReal.coe_sub, mul_comm]

theorem shifted_bot : shifted (F := Ideal) (⊥ : EReal) = (⊥ : EReal) := by
  show (⊥ : EReal) * word 0x41200000#32 - word 0x40A00000#32 = _
  rw [ofBits_ten, ofBits_five, EReal.bot_mul_coe_of_pos (by norm_num), EReal.bot_sub]

theorem shifted_top : shifted (F := Ideal) (⊤ : EReal) = (⊤ : EReal) := by
  show (⊤ : EReal) * word 0x41200000#32 - word 0x40A00000#32 = _
  rw [ofBits_ten, ofBits_five, EReal.top_mul_coe_of_pos (by norm_num), EReal.top_sub_coe]

/-- A real's absolute value, as the larger of it and its negative. -/
theorem max_neg_coe (c : ℝ) : max (c : EReal) (-(c : EReal)) = ((|c| : ℝ) : EReal) := by
  rw [← EReal.coe_neg, abs_eq_max_neg]
  exact (EReal.coe_strictMono.monotone.map_max).symm

/-- A real less `+∞` is `-∞`. -/
theorem real_sub_top (c : ℝ) : (c : EReal) - ⊤ = ⊥ := by
  rw [sub_eq_add_neg, EReal.neg_top, EReal.add_bot]

/-- The decay at a real shifted prediction. -/
theorem decay_coe (a : ℝ) {r : ℕ} (h : r < 32) :
    decay (F := Ideal) (a : EReal) r = ((Real.exp (-|a - 10 * r|) : ℝ) : EReal) := by
  show Ideal.exp (word 0x00000000#32
    - max ((a : EReal) - word (natWord (10 * r)))
      (-((a : EReal) - word (natWord (10 * r))))) = _
  rw [ofBits_tens h, ofBits_zero, ← EReal.coe_sub, max_neg_coe, ← EReal.coe_sub, Ideal.exp_coe, zero_sub]

/-- The decay at an infinite shifted prediction is zero. -/
theorem decay_infinite {a : EReal} (ha : a = ⊥ ∨ a = ⊤) {r : ℕ} (h : r < 32) : decay (F := Ideal) a r = (0 : EReal) := by
  show Ideal.exp (word 0x00000000#32
    - max (a - word (natWord (10 * r))) (-(a - word (natWord (10 * r))))) = _
  rw [ofBits_tens h, ofBits_zero]
  rcases ha with rfl | rfl
  · rw [EReal.bot_sub, EReal.neg_bot, max_eq_right bot_le, real_sub_top, Ideal.exp_bot]
  · rw [EReal.top_sub_coe, EReal.neg_top, max_eq_left bot_le, real_sub_top, Ideal.exp_bot]

/-- The weight from a real decay. -/
theorem weight_of_decay {a : EReal} {r : ℕ} {n : ℝ} (hn : 0 ≤ n) (h : decay (F := Ideal) a r = (n : EReal)) :
    weight (F := Ideal) a r
      = ((n / (Real.exp (-5) + n * (1 + Real.exp (-10) + Real.exp (-5) * n)) : ℝ) : EReal) := by
  show Ideal.div (decay (F := Ideal) a r) (kTwo (F := Ideal) + decay (F := Ideal) a r *
    (kOne (F := Ideal) + kTwo (F := Ideal) * decay (F := Ideal) a r)) = _
  rw [h, kOne_eq, kTwo_eq, ← EReal.coe_mul, ← EReal.coe_add, ← EReal.coe_mul, ← EReal.coe_add]
  exact div_coe_coe _ (by positivity)

/-- The kernel's weight of a rung is the real weight. -/
theorem weight_eq (p : EReal) {r : ℕ} (h : r < 32) :
    weight (F := Ideal) (shifted (F := Ideal) p) r = ((prob p r : ℝ) : EReal) := by
  induction p using EReal.rec with
  | bot =>
    rw [shifted_bot, weight_of_decay le_rfl (by rw [decay_infinite (.inl rfl) h, EReal.coe_zero]), zero_div]
    rfl
  | top =>
    rw [shifted_top, weight_of_decay le_rfl (by rw [decay_infinite (.inr rfl) h, EReal.coe_zero]), zero_div]
    rfl
  | coe p =>
    rw [shifted_coe, weight_of_decay (Real.exp_pos _).le (decay_coe _ h), decay_form]
    rfl

/-- The kernel's sum of weights is the real sum. -/
theorem weightSum_eq (p : EReal) {n : ℕ} (h : n ≤ 32) :
    weightSum (F := Ideal) (shifted (F := Ideal) p) n = ((∑ r ∈ Finset.range n, prob p r : ℝ) : EReal) := by
  induction n with
  | zero => exact ofBits_zero.trans (by simp)
  | succ n ih =>
    show weightSum (F := Ideal) (shifted (F := Ideal) p) n + weight (F := Ideal) (shifted (F := Ideal) p) n = _
    rw [ih (by omega), weight_eq p (by omega), ← EReal.coe_add, Finset.sum_range_succ]

/-- The target's rung is the number of rungs below the target. -/
theorem rungOf_eq (t : EReal) : rungOf (F := Ideal) t = ((below t : ℝ) : EReal) := by
  show Ideal.liftRound Int.ceil (min (word 0x42000000#32) (max (word 0x3F800000#32) t))
    - word 0x3F800000#32 = _
  rw [ofBits_thirtytwo, ofBits_one,
    show min ((32 : ℝ) : EReal) (max ((1 : ℝ) : EReal) t) = ((clip t : ℝ) : EReal) from (coe_clip t).symm,
    Ideal.liftRound_coe, ← EReal.coe_sub, ceil_clip]
  congr 1
  push_cast
  ring

/-- The kernel's sum of scores, times `2^k`, is the real sum of weighted scores. -/
theorem scoreSum_eq (p : EReal) (k : ℕ) {n : ℕ} (h : n ≤ 32) :
    scoreSum (F := Ideal) (shifted (F := Ideal) p) ((k : ℝ) : EReal) n
      = ((∑ r ∈ Finset.range n, (if k ≤ r then prob p r * (1 / 2 ^ r) else 0) : ℝ) : EReal) := by
  induction n with
  | zero => exact ofBits_zero.trans (by simp)
  | succ n ih =>
    show scoreSum (F := Ideal) (shifted (F := Ideal) p) ((k : ℝ) : EReal) n
      + Scalar.select (BitVec.ofBool (decide (((k : ℝ) : EReal) ≤ word (natWord n))))
          (weight (F := Ideal) (shifted (F := Ideal) p) n * word (halfWord n))
          (word 0x00000000#32) = _
    rw [ih (by omega), weight_eq p (by omega), ofBits_half (by omega), ofBits_rung (by omega), ofBits_zero,
      ← EReal.coe_mul, Finset.sum_range_succ, EReal.coe_add]
    congr 1
    by_cases hk : k ≤ n
    · have hk' : ((k : ℝ) : EReal) ≤ ((n : ℝ) : EReal) := EReal.coe_le_coe_iff.2 (by exact_mod_cast hk)
      rw [if_pos hk, decide_eq_true hk']
      rfl
    · have hk' : ¬ ((k : ℝ) : EReal) ≤ ((n : ℝ) : EReal) := fun e => hk (by exact_mod_cast EReal.coe_le_coe_iff.1 e)
      rw [if_neg hk, decide_eq_false hk']
      rfl

/-- The kernel's expected score is the real expected score. -/
theorem expected_eq (p t : EReal) : expected (F := Ideal) p t = ((mean p t : ℝ) : EReal) := by
  show Ideal.div (scoreSum (F := Ideal) (shifted (F := Ideal) p) (rungOf (F := Ideal) t) 32
      * Ideal.exp2 (rungOf (F := Ideal) t))
    (weightSum (F := Ideal) (shifted (F := Ideal) p) 32 + word 0x322BCC77#32) = _
  rw [rungOf_eq, scoreSum_eq p _ le_rfl, weightSum_eq p le_rfl, ofBits_eps, Ideal.exp2_coe, ← EReal.coe_mul,
    ← EReal.coe_add, div_coe_coe _ (total_pos p).ne']
  unfold mean
  congr 2
  rw [Finset.sum_mul]
  refine Finset.sum_congr rfl fun r _ => ?_
  have h2 : Real.rpow 2 (below t : ℝ) = 2 ^ below t := Real.rpow_natCast 2 _
  unfold score
  split_ifs
  · rw [h2]; ring
  · simp

end Cert.KernelIdeal.Value
-- ==== Proof.KernelSum.lean ====
/-
  THE KERNEL'S RESULT IN EXACT ARITHMETIC: one less the mean over the 4000000 elements of the expected scores. The 70
  blocks of 448 rows of 128 lanes cover the padded elements once each, in order, and the padding contributes nothing.
-/
module

public import proofs.«01_k».proof.Proof.KernelValue
public import proofs.«01_k».proof.Proof.KernelMaths

@[expose] public section

set_option maxRecDepth 16384

noncomputable section

open Idealize.ShloMosaic Idealize.ShloMosaic.TcCoe Idealize.SL.Sem

namespace Cert.KernelIdeal.Value

open Cert.KernelIdeal Cert.KernelIdeal.Gen Cert.Maths

/-! ## Sums over blocks -/

/-- A sum over `a` blocks of `b` consecutive numbers is the sum over the `a * b` numbers. -/
theorem sum_blocks (f : ℕ → ℝ) (a b : ℕ) :
    ∑ i ∈ Finset.range a, ∑ j ∈ Finset.range b, f (i * b + j) = ∑ k ∈ Finset.range (a * b), f k := by
  induction a with
  | zero => simp
  | succ a ih => rw [Finset.sum_range_succ, ih, Nat.succ_mul, Finset.sum_range_add]

/-- The expected score of element `k` of the padded arrays: zero past the 4000000 given elements. -/
def meanAt (x t : FVec Ideal S4000000 .f32) (k : ℕ) : ℝ :=
  if h : k < 4000000 then mean (x (ix1 ⟨k, h⟩)) (t (ix1 ⟨k, h⟩)) else 0

/-- The sum of all expected scores, over the padded arrays' 70 blocks of 448 rows of 128 lanes, is the sum over the
    4000000 given elements. -/
theorem sum_meanAt (x t : FVec Ideal S4000000 .f32) :
    ∑ p ∈ Finset.range 70, ∑ r ∈ Finset.range 448, ∑ l ∈ Finset.range 128, meanAt x t ((p * 448 + r) * 128 + l)
      = ∑ k ∈ Finset.range 4000000, meanAt x t k := by
  rw [sum_blocks (fun i => ∑ l ∈ Finset.range 128, meanAt x t (i * 128 + l)) 70 448, sum_blocks,
    show 70 * 448 * 128 = 4000000 + 14080 from rfl, Finset.sum_range_add, add_eq_left]
  refine Finset.sum_eq_zero fun k _ => ?_
  unfold meanAt
  rw [dif_neg (by omega)]

/-! ## One block -/

/-- A real sum read as an extended real is the sum of the terms so read. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A block's total is the sum over its rows and lanes. -/
theorem blockTotal_apply (v : FVec Ideal S448x128 .f32) :
    blockTotal (F := Ideal) v (ix2 0 0) = ∑ r : Fin 448, ∑ l : Fin 128, (v (ix2 r l) : EReal) := by
  unfold blockTotal
  pointwise

variable (m : (ℓ : Loc nD τ sig) → Buf (Elt Ideal) ℓ)

/-- The predictions, read from the launch memory. -/
abbrev preds (c : Dev nD) : FVec Ideal S4000000 .f32 := m ((c.tc : Thread nD τ).loc main_arg0)
/-- The targets, read from the launch memory. -/
abbrev targets (c : Dev nD) : FVec Ideal S4000000 .f32 := m ((c.tc : Thread nD τ).loc main_arg1)

/-- The expected score of row `r`, lane `l` of point `t`'s block is that of the padded arrays' element there. -/
theorem expectedBlock_apply (c : Dev nD) (t : Fin cfg0.N) (r : Fin 448) (l : Fin 128) :
    expectedBlock (F := Ideal) (iblk m c 0 t) (iblk m c 1 t) (ix2 r l)
      = ((meanAt (preds m c) (targets m c) ((t.val * 448 + r.val) * 128 + l.val) : ℝ) : EReal) := by
  show expected (F := Ideal) ((iblk m c 0 t : Vec Ideal S448x128 .f32) (ix2 r l))
    ((iblk m c 1 t : Vec Ideal S448x128 .f32) (ix2 r l)) = _
  rw [iblk0_apply, iblk1_apply, expected_eq, padded_apply, padded_apply]
  unfold meanAt
  by_cases h : (t.val * 448 + r.val) * 128 + l.val < 4000000
  · rw [dif_pos h]
    erw [dif_pos h, dif_pos h]
    rfl
  · rw [dif_neg h]
    erw [dif_neg h, dif_neg h]
    show ((mean (word 0xFF800000#32) _ : ℝ) : EReal) = _
    rw [ofBits_neg_inf, mean_bot]

/-- Point `t`'s total. -/
theorem pointTotal_apply (c : Dev nD) (t : Fin cfg0.N) :
    pointTotal m c t (ix2 0 0) = ((∑ r ∈ Finset.range 448, ∑ l ∈ Finset.range 128,
      meanAt (preds m c) (targets m c) ((t.val * 448 + r) * 128 + l) : ℝ) : EReal) := by
  unfold pointTotal
  rw [blockTotal_apply, coe_sum, Finset.sum_range]
  refine Finset.sum_congr rfl fun r _ => ?_
  rw [coe_sum, Finset.sum_range]
  exact Finset.sum_congr rfl fun l _ => expectedBlock_apply m c t r l

/-! ## The grid -/

/-- The running sum after point `n`. -/
theorem running_apply (c : Dev nD) : ∀ (n : ℕ) (h : n < cfg0.N), running m c n h (ix2 0 0)
    = ((∑ p ∈ Finset.range (n + 1), ∑ r ∈ Finset.range 448, ∑ l ∈ Finset.range 128,
      meanAt (preds m c) (targets m c) ((p * 448 + r) * 128 + l) : ℝ) : EReal)
  | 0, h => by
    show word 0x00000000#32 + pointTotal m c ⟨0, h⟩ (ix2 0 0) = _
    rw [ofBits_zero, pointTotal_apply, ← EReal.coe_add, zero_add, Finset.sum_range_one]
  | n + 1, h => by
    show running m c n _ (ix2 0 0) + pointTotal m c ⟨n + 1, h⟩ (ix2 0 0) = _
    rw [running_apply c n, pointTotal_apply, ← EReal.coe_add, Finset.sum_range_succ _ (n + 1)]

/-- The output array ends holding the sum of all expected scores. -/
theorem total_apply (c : Dev nD) : total m c (ix2 0 0)
    = ((∑ k ∈ Finset.range 4000000, meanAt (preds m c) (targets m c) k : ℝ) : EReal) := by
  rw [← sum_meanAt]
  exact running_apply m c 69 _

/-- The kernel's answer: one less the mean of the expected scores. -/
theorem answer_apply (c : Dev nD) (i : S_.Idx) : answer m c i
    = ((1 - (∑ k ∈ Finset.range 4000000, meanAt (preds m c) (targets m c) k) / 4000000 : ℝ) : EReal) := by
  have hs : (shapeCast S_ (total m c) shapeCasts_S1x1_S_ : FVec Ideal S_ .f32) i = total m c (ix2 0 0) := by
    pointwise
  show word 0x3F800000#32 - Ideal.div ((shapeCast S_ (total m c) shapeCasts_S1x1_S_ : FVec Ideal S_ .f32) i)
    (word 0x4A742400#32) = _
  rw [hs, total_apply, ofBits_one, ofBits_count, div_coe_coe _ (by norm_num), ← EReal.coe_sub]

end Cert.KernelIdeal.Value
-- ==== Proof.RefMaths.lean ====
/-
  THE REFERENCE'S FORMULAS IN EXACT ARITHMETIC: a rung's probability is the product of two logistics, and a rung's score
  is a power of two or zero, read off 32-bit integer words.
-/
module

public import proofs.«01_k».proof.Proof.Maths
public import Idealize.ShloMosaic.Lib.Pointwise

@[expose] public section

noncomputable section

open Idealize.ShloMosaic

namespace Cert.ReferenceIdeal.Value

open Cert.Maths

/-- The logistic of ten times `x`, as the reference writes it. -/
def logistic (x : EReal) : EReal :=
  Ideal.div ((1 : ℝ) : EReal) (((1 : ℝ) : EReal) + Ideal.exp (-(x * ((10 : ℝ) : EReal))))

/-- At a real number the logistic is the usual formula. -/
theorem logistic_coe (x : ℝ) : logistic (x : EReal) = ((1 / (1 + Real.exp (-(x * 10))) : ℝ) : EReal) := by
  unfold logistic
  rw [← EReal.coe_mul, ← EReal.coe_neg, Ideal.exp_coe, ← EReal.coe_add, div_coe_coe _ (by positivity)]

/-- The logistic tends to zero at minus infinity. -/
theorem logistic_bot : logistic ⊥ = 0 := by
  unfold logistic
  rw [EReal.bot_mul_coe_of_pos (by norm_num), EReal.neg_bot, Ideal.exp_top, EReal.coe_add_top]
  simp [Ideal.div]

/-- The logistic tends to one at plus infinity. -/
theorem logistic_top : logistic ⊤ = ((1 : ℝ) : EReal) := by
  unfold logistic
  rw [EReal.top_mul_coe_of_pos (by norm_num), EReal.neg_top, Ideal.exp_bot, add_zero, div_coe_coe _ one_ne_zero, div_one]

/-- The product of the two logistics of rung `r` is the rung's unnormalized probability. -/
theorem logistic_mul_logistic (p : EReal) (r : ℕ) :
    logistic (p - ((r : ℝ) : EReal)) * logistic (((1 + r : ℝ) : EReal) - p) = ((prob p r : ℝ) : EReal) := by
  induction p with
  | bot =>
    rw [show (⊥ : EReal) - ((r : ℝ) : EReal) = ⊥ from rfl, logistic_bot, zero_mul]
    rfl
  | top =>
    rw [show ((1 + r : ℝ) : EReal) - ⊤ = ⊥ from rfl, logistic_bot, mul_zero]
    rfl
  | coe p =>
    rw [← EReal.coe_sub, ← EReal.coe_sub, logistic_coe, logistic_coe, ← EReal.coe_mul, logistic_form]
    rfl

/-- A rung number as a 32-bit word, read back signed, is that number. -/
theorem toInt_rung {r : ℕ} (hr : r < 32) : (BitVec.ofNat 32 r).toInt = r := by
  have h : ∀ r : Fin 32, (BitVec.ofNat 32 r.val).toInt = r.val := by decide
  exact h ⟨r, hr⟩

/-- The difference of two rung numbers as 32-bit words, read back signed, is their difference. -/
theorem toInt_sub {r k : ℕ} (hr : r < 32) (hk : k ≤ 31) :
    (IntOp.subi (BitVec.ofNat 32 r) (BitVec.ofNat 32 k)).toInt = (r : ℤ) - k := by
  show (BitVec.ofNat 32 r - BitVec.ofNat 32 k).toInt = _
  rw [BitVec.toInt_sub, toInt_rung hr, toInt_rung (by omega)]
  simp only [Int.bmod]
  omega

/-- Clamping a rung number to the rungs leaves it as it is. -/
theorem clamp_rung {k : ℕ} (hk : k ≤ 31) :
    IntOp.minsi 31#32 (IntOp.maxsi 0#32 (BitVec.ofNat 32 k)) = BitVec.ofNat 32 k := by
  have h : ∀ k : Fin 32, IntOp.minsi 31#32 (IntOp.maxsi 0#32 (BitVec.ofNat 32 k.val)) = BitVec.ofNat 32 k.val := by
    decide
  exact h ⟨k, by omega⟩

/-- Two to the power of how far rung `r` lies under rung `k`, or zero where it lies under it at all, is the rung's
    score. -/
theorem select_power {r k : ℕ} (hr : r < 32) (hk : k ≤ 31) (d : BitVec 32)
    (hd : d = IntOp.subi (BitVec.ofNat 32 r) (BitVec.ofNat 32 k)) :
    Scalar.select (IntOp.cmpi .slt d 0#32) ((0 : ℝ) : EReal)
      (Ideal.pow ((2 : ℝ) : EReal) (-((d.toInt : ℝ) : EReal))) = ((score k r : ℝ) : EReal) := by
  have hi : d.toInt = (r : ℤ) - k := by rw [hd, toInt_sub hr hk]
  have hc : IntOp.cmpi .slt d 0#32 = BitVec.ofBool (decide (r < k)) := by
    show BitVec.ofBool (d.slt 0#32) = _
    congr 1
    rw [BitVec.slt_eq_decide, hi]
    exact decide_eq_decide.2 (by simp)
  rw [hc, hi]
  unfold score
  by_cases h : r < k
  · rw [if_neg (by omega), decide_eq_true h]
    rfl
  · rw [if_pos (by omega), decide_eq_false h]
    refine (if_neg (by decide)).trans ?_
    rw [← EReal.coe_neg, Ideal.pow_coe_coe]
    congr 1
    show (2 : ℝ) ^ (-(((r : ℤ) - k : ℤ) : ℝ)) = _
    push_cast
    rw [neg_sub, Real.rpow_sub (by norm_num), Real.rpow_natCast, Real.rpow_natCast]

end Cert.ReferenceIdeal.Value
-- ==== Proof.RefValue.lean ====
/-
  WHAT THE REFERENCE COMPUTES in exact arithmetic: one less the mean, over the 4000000 elements, of the expected scores.
-/
module

public import proofs.«01_k».proof.Proof.RefMaths
public import proofs.«01_k».proof.Proof.Gen.ReferenceIdeal.Read
public import Idealize.ShloMosaic.Lib.Routing.Ops
public import Idealize.ShloMosaic.Lib.ValueIdxRank1

@[expose] public section

set_option maxRecDepth 16384

noncomputable section

open Idealize.ShloMosaic Idealize.ShloMosaic.TcCoe

namespace Cert.ReferenceIdeal.Value

open Cert.ReferenceIdeal Cert.ReferenceIdeal.Gen Cert.ReferenceIdeal.Read Cert.Maths

variable (x t : FVec Ideal S4000000 .f32)

/-! ## The ladder of rungs -/

/-- Rung `r` of the ladder ends at `1 + r`. -/
theorem ladder_apply (i : S32.Idx) : val_main_v2 (F := Ideal) i = ((1 + (i 0).val : ℝ) : EReal) := by
  rw [val_main_v2_apply, val_main_v1_apply, val_main_cst_apply]
  show word 0x3F800000#32 + (((BitVec.ofNat 32 (i 0).val).toInt : ℝ) : EReal) = _
  rw [toInt_rung (i 0).isLt, ofBits_one, ← EReal.coe_add, Int.cast_natCast]

/-- Rung `r` of the ladder begins at `r`. -/
theorem lower_apply (i : S32.Idx) : val_main_v18 (F := Ideal) i = (((i 0).val : ℝ) : EReal) := by
  unfold val_main_v18
  by_cases h : (i 0).val = 0
  · refine (concatenate_pair_apply_left (0 : Fin S32.rank) _ _ concatenates_S1_S31_S32_d0 i rfl
      (ix1 (0 : Fin 1)) fun b => ?_).trans ?_
    · match b with
      | ⟨0, _⟩ => exact h.symm
    · rw [val_main_v16_apply, val_main_cst_2_apply, h, Nat.cast_zero]
      exact ofBits_zero
  · have hi : (i 0).val < 32 := (i 0).isLt
    refine (concatenate_pair_apply_right (0 : Fin S32.rank) _ _ concatenates_S1_S31_S32_d0 i rfl rfl
      (ix1 (⟨(i 0).val - 1, by omega⟩ : Fin 31)) (fun b hb => ?_) ?_).trans ?_
    · match b with
      | ⟨0, _⟩ => exact absurd rfl hb
    · show (i 0).val - 1 + 1 = (i 0).val
      omega
    · rw [val_main_v17_apply, ladder_apply]
      show ((1 + ((i 0).val - 1 : ℕ) : ℝ) : EReal) = _
      rw [Nat.cast_sub (by omega), Nat.cast_one, add_sub_cancel]

/-! ## Probabilities -/

/-- The unnormalized probability of rung `r` for element `j`. -/
theorem prob_apply (j : Fin 4000000) (r : Fin 32) :
    val_main_v44 (F := Ideal) x (ix2 j r) = ((prob (x (ix1 j)) r.val : ℝ) : EReal) := by
  have hx : ∀ h : S4000000.Idx, (h 0).val = j.val → x h = x (ix1 j) := fun h e =>
    congrArg x (funext fun a => Fin.ext (by match a with | ⟨0, _⟩ => exact e))
  have h1 : val_main_v23 (F := Ideal) x (ix2 j r) = x (ix1 j) - ((r.val : ℝ) : EReal) := by
    rw [val_main_v23_apply, val_main_v21_apply, val_main_v19_apply, val_main_v22_apply, val_main_v20_apply,
      lower_apply, hx _ rfl]
    rfl
  have h2 : val_main_v35 (F := Ideal) x (ix2 j r) = ((1 + r.val : ℝ) : EReal) - x (ix1 j) := by
    rw [val_main_v35_apply, val_main_v34_apply, val_main_v19_apply, val_main_v33_apply, val_main_v32_apply,
      ladder_apply, hx _ rfl]
    rfl
  have h3 : val_main_v31 (F := Ideal) x (ix2 j r) = logistic (val_main_v23 (F := Ideal) x (ix2 j r)) := by
    rw [val_main_v31_apply, val_main_v30_apply, val_main_v29_apply, val_main_v28_apply, val_main_v27_apply,
      val_main_v26_apply, val_main_v25_apply, val_main_v24_apply]
    show Ideal.div (word 0x3F800000#32) (word 0x3F800000#32 + Ideal.exp (-(_ * word 0x41200000#32))) = _
    rw [ofBits_one, ofBits_ten]
    rfl
  have h4 : val_main_v43 (F := Ideal) x (ix2 j r) = logistic (val_main_v35 (F := Ideal) x (ix2 j r)) := by
    rw [val_main_v43_apply, val_main_v42_apply, val_main_v41_apply, val_main_v40_apply, val_main_v39_apply,
      val_main_v38_apply, val_main_v37_apply, val_main_v36_apply]
    show Ideal.div (word 0x3F800000#32) (word 0x3F800000#32 + Ideal.exp (-(_ * word 0x41200000#32))) = _
    rw [ofBits_one, ofBits_ten]
    rfl
  rw [val_main_v44_apply, h3, h4, h1, h2]
  exact logistic_mul_logistic _ _

/-- A real sum read as a sum of extended reals. -/
theorem sum_coe {n : ℕ} (f : Fin n → ℝ) : ∑ j, ((f j : ℝ) : EReal) = ((∑ j, f j : ℝ) : EReal) :=
  (map_sum (⟨⟨Real.toEReal, rfl⟩, EReal.coe_add⟩ : ℝ →+ EReal) f Finset.univ).symm

/-- A real sum over the rungs, read as a sum of extended reals. -/
theorem coe_sum_rungs (f : ℕ → ℝ) :
    ∑ r : Fin 32, ((f r.val : ℝ) : EReal) = ((∑ r ∈ Finset.range 32, f r : ℝ) : EReal) := by
  rw [Finset.sum_range, sum_coe]

/-- The normalized probability of rung `r` for element `j`. -/
theorem normalized_apply (j : Fin 4000000) (r : Fin 32) : val_main_v50 (F := Ideal) x (ix2 j r)
    = ((prob (x (ix1 j)) r.val / (∑ r ∈ Finset.range 32, prob (x (ix1 j)) r + eps) : ℝ) : EReal) := by
  have h : ∀ i : S4000000.Idx, (i 0).val = j.val → val_main_v45 (F := Ideal) x i
      = ((∑ r ∈ Finset.range 32, prob (x (ix1 j)) r : ℝ) : EReal) := fun i e => by
    rw [val_main_v45_apply, val_main_cst_9_apply, ← coe_sum_rungs]
    show word 0x00000000#32 + _ = _
    rw [ofBits_zero, EReal.coe_zero, zero_add]
    refine Finset.sum_congr rfl fun k _ => ?_
    rw [← prob_apply]
    exact congrArg _ (funext fun a => Fin.ext (by match a with | ⟨0, _⟩ => exact e | ⟨1, _⟩ => rfl))
  rw [val_main_v50_apply, val_main_v49_apply, val_main_v48_apply, val_main_v47_apply, val_main_v46_apply,
    val_main_cst_10_apply, prob_apply, h _ rfl]
  show Ideal.div _ (_ + word 0x322BCC77#32) = _
  rw [ofBits_eps, ← EReal.coe_add, div_coe_coe _ (total_pos _).ne']

/-! ## Scores -/

/-- The clipped target of element `j`. -/
theorem clip_apply (i : S4000000.Idx) : val_main_v7 (F := Ideal) t i = ((clip (t i) : ℝ) : EReal) := by
  have h4 : ∀ i, val_main_v4 (F := Ideal) i = (1 : EReal) := fun i => by
    unfold val_main_v4
    rw [shapeCast_apply _ shapeCasts_S1_S_ i (ix1 (0 : Fin 1)) (by rfl), val_main_v3_apply, ladder_apply]
    show ((1 + ((0 : ℕ) : ℝ) : ℝ) : EReal) = 1
    norm_num
  have h6 : ∀ i, val_main_v6 (F := Ideal) i = (32 : EReal) := fun i => by
    unfold val_main_v6
    rw [shapeCast_apply _ shapeCasts_S1_S_ i (ix1 (0 : Fin 1)) (by rfl), val_main_v5_apply, ladder_apply]
    show ((1 + ((31 : ℕ) : ℝ) : ℝ) : EReal) = ((32 : ℝ) : EReal)
    norm_num
  rw [val_main_v7_apply, val_main_call0_v1_apply, val_main_call0_v0_apply, val_main_call0_v2_apply, h4, h6, coe_clip]
  rfl

/-- A one-bit word made of a truth value is one exactly where it is true. -/
theorem ofBool_eq_one : ∀ b : Bool, BitVec.ofBool b = 1#1 ↔ b = true := by decide

/-- How many rungs end under the clipped target of element `j`. -/
theorem count_apply (j : Fin 4000000) : val_main_v14 (F := Ideal) t (ix1 j) = BitVec.ofNat 32 (below (t (ix1 j))) := by
  have h : ∀ q : Fin 32, val_main_v12 (F := Ideal) t (ix2 j q) = 1#1 ↔ q.val < below (t (ix1 j)) := fun q => by
    rw [val_main_v12_apply, val_main_v10_apply, val_main_v8_apply, ladder_apply, val_main_v11_apply,
      val_main_v9_apply, clip_apply, Ideal.cmpf_def, ← lt_clip_iff, ← EReal.coe_lt_coe_iff]
    have e : idx_main_v9 (idx_main_v11 (ix2 j q)) = ix1 j :=
      funext fun a => Fin.ext (by match a with | ⟨0, _⟩ => rfl)
    rw [e]
    show BitVec.ofBool (decide (_ < _)) = 1#1 ↔ _
    rw [ofBool_eq_one, decide_eq_true_iff]
    rfl
  have hc : Nat.count (fun q => q < below (t (ix1 j))) 32 = below (t (ix1 j)) := by
    rw [Nat.count_eq_card_filter_range]
    have : (Finset.range 32).filter (fun q => q < below (t (ix1 j))) = Finset.range (below (t (ix1 j))) := by
      ext q
      have := below_le (t (ix1 j))
      simp only [Finset.mem_filter, Finset.mem_range]
      omega
    rw [this, Finset.card_range]
  rw [← hc]
  exact Routing.reduce_count (by norm_num) (val_main_v12 (F := Ideal) t) natLt_1_32
    reducesTo_S4000000x32_S4000000_d1 h_S_ j _ h

/-- The score of rung `r` for element `j`. -/
theorem score_apply (j : Fin 4000000) (r : Fin 32) :
    val_main_v63 (F := Ideal) t (ix2 j r) = ((score (below (t (ix1 j))) r.val : ℝ) : EReal) := by
  have e : idx_main_v53 (idx_main_v55 (ix2 j r)) = ix1 j :=
    funext fun a => Fin.ext (by match a with | ⟨0, _⟩ => rfl)
  have h56 : val_main_v56 (F := Ideal) t (ix2 j r)
      = IntOp.subi (BitVec.ofNat 32 r.val) (BitVec.ofNat 32 (below (t (ix1 j)))) := by
    rw [val_main_v56_apply, val_main_v54_apply, val_main_v52_apply, val_main_v51_apply, val_main_v55_apply,
      val_main_v53_apply, val_main_v15_apply, val_main_call1_v2_apply, val_main_call1_v1_apply,
      val_main_call1_v4_apply, e, count_apply]
    exact congrArg _ (clamp_rung (below_le _))
  rw [val_main_v63_apply, val_main_v58_apply, val_main_v57_apply, val_main_call2_v1_apply, val_main_v62_apply,
    val_main_v61_apply, val_main_v60_apply, val_main_v59_apply, ← select_power r.isLt (below_le _) _ h56]
  show Scalar.select _ (word 0x00000000#32) (Ideal.pow (word 0x40000000#32) _) = _
  rw [ofBits_zero, ofBits_two]
  rfl

/-! ## The mean -/

/-- The expected score of element `j`. -/
theorem expected_apply (j : Fin 4000000) :
    val_main_v65 (F := Ideal) x t (ix1 j) = ((mean (x (ix1 j)) (t (ix1 j)) : ℝ) : EReal) := by
  unfold mean
  rw [val_main_v65_apply, val_main_cst_14_apply, Finset.sum_div, ← coe_sum_rungs]
  show word 0x00000000#32 + _ = _
  rw [ofBits_zero, EReal.coe_zero, zero_add]
  refine Finset.sum_congr rfl fun k _ => ?_
  have e : idx_main_v65 (ix1 j) k = ix2 j k :=
    funext fun a => Fin.ext (by match a with | ⟨0, _⟩ => rfl | ⟨1, _⟩ => rfl)
  rw [e, val_main_v64_apply, normalized_apply, score_apply, mul_div_right_comm, EReal.coe_mul]
  rfl

/-- The mean of `1 - f` is one less the mean of `f`. -/
theorem mean_one_sub {n : ℕ} (hn : n ≠ 0) (f : Fin n → ℝ) : (∑ j, (1 - f j)) / (n : ℝ) = 1 - (∑ j, f j) / n := by
  rw [Finset.sum_sub_distrib, sub_div, Finset.sum_const, Finset.card_univ, Fintype.card_fin, nsmul_eq_mul, mul_one,
    div_self (Nat.cast_ne_zero.2 hn)]

/-- The reference's answer: one less the mean of the expected scores. -/
theorem result_apply (i : S_.Idx) : val_main_v69 (F := Ideal) x t i
    = ((1 - (∑ j : Fin 4000000, mean (x (ix1 j)) (t (ix1 j))) / 4000000 : ℝ) : EReal) := by
  have h67 : ∀ j : Fin 4000000, val_main_v67 (F := Ideal) x t (ix1 j)
      = ((1 - mean (x (ix1 j)) (t (ix1 j)) : ℝ) : EReal) := fun j => by
    rw [val_main_v67_apply, val_main_v66_apply, expected_apply]
    show word 0x3F800000#32 - _ = _
    rw [ofBits_one, ← EReal.coe_sub]
  have h68 : val_main_v68 (F := Ideal) x t i
      = ((∑ j : Fin 4000000, (1 - mean (x (ix1 j)) (t (ix1 j))) : ℝ) : EReal) := by
    rw [val_main_v68_apply, val_main_cst_16_apply]
    show word 0x00000000#32 + _ = _
    rw [ofBits_zero, EReal.coe_zero, zero_add,
      ← Equiv.sum_comp (ValueIdx.idxEquiv1 (n := 4000000)).symm (val_main_v67 (F := Ideal) x t)]
    exact (Finset.sum_congr rfl fun j _ => h67 j).trans (sum_coe _)
  rw [val_main_v69_apply, h68]
  show Ideal.div _ (word 0x4A742400#32) = _
  have h := mean_one_sub (n := 4000000) (by norm_num) fun j => mean (x (ix1 j)) (t (ix1 j))
  rw [Nat.cast_ofNat] at h
  rw [ofBits_count, div_coe_coe _ (by norm_num), h]

end Cert.ReferenceIdeal.Value
-- ==== Proof.Equation.lean ====
/-
  THE EQUATION: in exact arithmetic, on the same predictions and targets, the kernel's answer is the reference's.
-/
module

public import proofs.«01_k».proof.Proof.KernelSum
public import proofs.«01_k».proof.Proof.RefValue

@[expose] public section

noncomputable section

open Idealize.ShloMosaic Idealize.ShloMosaic.TcCoe Idealize.SL.Sem

namespace Cert.Equation

open Cert.Maths

/-- The kernel's sum over the element numbers is the reference's sum over the elements. -/
theorem sum_meanAt_eq (x t : FVec Ideal ⟨1, ![4000000]⟩ .f32) :
    ∑ k ∈ Finset.range 4000000, Cert.KernelIdeal.Value.meanAt x t k
      = ∑ j : Fin 4000000, mean (x (ix1 j)) (t (ix1 j)) := by
  rw [Finset.sum_range]
  exact Finset.sum_congr rfl fun j _ => dif_pos j.isLt

/-- The kernel's answer is the value the reference computes from the kernel's arguments. -/
theorem answer_eq (m : (ℓ : Loc Cert.KernelIdeal.nD Cert.KernelIdeal.τ Cert.KernelIdeal.sig) → Buf (Elt Ideal) ℓ)
    (c : Dev Cert.KernelIdeal.nD) :
    Cert.ReferenceIdeal.Read.val_main_v69 (F := Ideal) (Cert.KernelIdeal.Value.preds m c)
        (Cert.KernelIdeal.Value.targets m c)
      = Cert.KernelIdeal.Value.answer m c := by
  funext i
  refine (Cert.ReferenceIdeal.Value.result_apply _ _ i).trans ?_
  refine Eq.trans ?_ (Cert.KernelIdeal.Value.answer_apply m c i).symm
  rw [sum_meanAt_eq]

end Cert.Equation
-- ==== Proof.lean ====
/-
  THE CERTIFICATE: the kernel, its exact-arithmetic reading and the reference each run to the end, leave their
  arguments as they were and every semaphore at zero; and in exact arithmetic the kernel's result is the reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Lib.Claim
public import Idealize.ShloMosaic.Lib.Quiescent

@[expose] public section

noncomputable section

namespace Cert.Proof

open Idealize.ShloMosaic Idealize.ShloMosaic.TcCoe Idealize.SL.Sem

/-- The reference leaves its arguments as they were and every semaphore at zero. -/
theorem reference_quiescent : Cert.quiescent_ReferenceIdeal (hReferenceIdeal := Cert.ReferenceIdeal.Gen.facts) := by
  intro m g _
  exact θ_run_mono (Cert.ReferenceIdeal.Value.run m g) fun r h =>
    ⟨fun c => (h c).2, sem_eq_zero_of_no_sems (by decide) r.2⟩

/-- From equal arguments the kernel and the reference end with equal results, the arguments unchanged. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Value.answer m c, Cert.KernelIdeal.Value.run m g, ?_⟩
  refine θ_run_mono (Cert.ReferenceIdeal.Value.run m' g') fun r h c => ⟨?_, (h c).2⟩
  refine ((h c).1.trans (Cert.ReferenceIdeal.Read.val_main_v69_eq m' c)).trans ?_
  rw [(hagree c).1, (hagree c).2]
  exact Cert.Equation.answer_eq m c

theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g,
    reference_quiescent, trivial, algebraic⟩

end Cert.Proof

end
